-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v21)) (v1 : (c : Dev Cert.KernelIdeal.nD) → Buf (Elt Ideal) ((c.tc : Thread Cert.KernelIdeal.nD Cert.KernelIdeal.τ).loc Cert.KernelIdeal.main_v20_0)) (v2 : (c : Dev Cert.KernelIdeal.nD) → Buf (Elt Ideal) ((c.tc : Thread Cert.KernelIdeal.nD Cert.KernelIdeal.τ).loc Cert.KernelIdeal.main_v20_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_v20_0) = v1 c
          ∧ r.2.mem ((c.tc : Thread Cert.KernelIdeal.nD Cert.KernelIdeal.τ).loc Cert.KernelIdeal.main_v20_1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S3x1024x1920 : Shape := ⟨3, ![3, 1024, 1920]⟩
abbrev S4608x1920 : Shape := ⟨2, ![4608, 1920]⟩
abbrev S4608x60 : Shape := ⟨2, ![4608, 60]⟩
abbrev S3072x1920 : Shape := ⟨2, ![3072, 1920]⟩
abbrev S1920 : Shape := ⟨1, ![1920]⟩
abbrev S60 : Shape := ⟨1, ![60]⟩
abbrev S1x1920 : Shape := ⟨2, ![1, 1920]⟩
abbrev S_ : Shape := ⟨0, ![]⟩
abbrev S60x1 : Shape := ⟨2, ![60, 1]⟩
abbrev S60x1920 : Shape := ⟨2, ![60, 1920]⟩
abbrev S1920x1 : Shape := ⟨2, ![1920, 1]⟩
abbrev S1x60 : Shape := ⟨2, ![1, 60]⟩
abbrev S1920x60 : Shape := ⟨2, ![1920, 60]⟩
abbrev S3072x60 : Shape := ⟨2, ![3072, 60]⟩
abbrev S256x1920 : Shape := ⟨2, ![256, 1920]⟩
abbrev S256x60 : Shape := ⟨2, ![256, 60]⟩
abbrev S512x60 : Shape := ⟨2, ![512, 60]⟩
abbrev S512x1920 : Shape := ⟨2, ![512, 1920]⟩
abbrev S3072x4608 : Shape := ⟨2, ![3072, 4608]⟩
abbrev S3072x512 : Shape := ⟨2, ![3072, 512]⟩

abbrev nBuf : Space → Nat
  | .hbm => 46
  | .vmem => 18
  | .smem => 0
  | _ => 0

abbrev bufTy : (tb : Table) → Fin (tcTables nBuf tb) → BufTy
  | .hbm, ⟨0, _⟩ => ⟨S3x1024x1920, .bf16⟩
  | .hbm, ⟨1, _⟩ => ⟨S4608x1920, .fp8e4m3⟩
  | .hbm, ⟨2, _⟩ => ⟨S4608x60, .i8⟩
  | .hbm, ⟨3, _⟩ => ⟨S3072x1920, .bf16⟩
  | .hbm, ⟨4, _⟩ => ⟨S1920, .i32⟩
  | .hbm, ⟨5, _⟩ => ⟨S60, .i32⟩
  | .hbm, ⟨6, _⟩ => ⟨S1x1920, .i32⟩
  | .hbm, ⟨7, _⟩ => ⟨S_, .i32⟩
  | .hbm, ⟨8, _⟩ => ⟨S_, .i32⟩
  | .hbm, ⟨9, _⟩ => ⟨S1x1920, .i32⟩
  | .hbm, ⟨10, _⟩ => ⟨S1x1920, .i32⟩
  | .hbm, ⟨11, _⟩ => ⟨S1x1920, .i32⟩
  | .hbm, ⟨12, _⟩ => ⟨S_, .i32⟩
  | .hbm, ⟨13, _⟩ => ⟨S1x1920, .i32⟩
  | .hbm, ⟨14, _⟩ => ⟨S1x1920, .i1⟩
  | .hbm, ⟨15, _⟩ => ⟨S1x1920, .i32⟩
  | .hbm, ⟨16, _⟩ => ⟨S1x1920, .i32⟩
  | .hbm, ⟨17, _⟩ => ⟨S_, .i32⟩
  | .hbm, ⟨18, _⟩ => ⟨S1x1920, .i32⟩
  | .hbm, ⟨19, _⟩ => ⟨S1x1920, .i1⟩
  | .hbm, ⟨20, _⟩ => ⟨S1x1920, .i1⟩
  | .hbm, ⟨21, _⟩ => ⟨S_, .i32⟩
  | .hbm, ⟨22, _⟩ => ⟨S1x1920, .i32⟩
  | .hbm, ⟨23, _⟩ => ⟨S1x1920, .i32⟩
  | .hbm, ⟨24, _⟩ => ⟨S1x1920, .i32⟩
  | .hbm, ⟨25, _⟩ => ⟨S60x1, .i32⟩
  | .hbm, ⟨26, _⟩ => ⟨S60x1920, .i32⟩
  | .hbm, ⟨27, _⟩ => ⟨S60x1920, .i32⟩
  | .hbm, ⟨28, _⟩ => ⟨S60x1920, .i1⟩
  | .hbm, ⟨29, _⟩ => ⟨S60x1920, .bf16⟩
  | .hbm, ⟨30, _⟩ => ⟨S1920x1, .i32⟩
  | .hbm, ⟨31, _⟩ => ⟨S1x60, .i32⟩
  | .hbm, ⟨32, _⟩ => ⟨S_, .i32⟩
  | .hbm, ⟨33, _⟩ => ⟨S1x60, .i32⟩
  | .hbm, ⟨34, _⟩ => ⟨S1x60, .i32⟩
  | .hbm, ⟨35, _⟩ => ⟨S_, .i32⟩
  | .hbm, ⟨36, _⟩ => ⟨S1x60, .i32⟩
  | .hbm, ⟨37, _⟩ => ⟨S1x60, .i32⟩
  | .hbm, ⟨38, _⟩ => ⟨S1920x60, .i32⟩
  | .hbm, ⟨39, _⟩ => ⟨S1920x60, .i32⟩
  | .hbm, ⟨40, _⟩ => ⟨S1920x60, .i1⟩
  | .hbm, ⟨41, _⟩ => ⟨S1920x60, .bf16⟩
  | .hbm, ⟨42, _⟩ => ⟨S3072x1920, .fp8e4m3⟩
  | .hbm, ⟨43, _⟩ => ⟨S3072x60, .i8⟩
  | .hbm, ⟨44, _⟩ => ⟨S3072x1920, .bf16⟩
  | .hbm, ⟨45, _⟩ => ⟨S3072x4608, .bf16⟩
  | .local _ .vmem, ⟨0, _⟩ => ⟨S256x1920, .bf16⟩
  | .local _ .vmem, ⟨1, _⟩ => ⟨S256x1920, .bf16⟩
  | .local _ .vmem, ⟨2, _⟩ => ⟨S1920x60, .bf16⟩
  | .local _ .vmem, ⟨3, _⟩ => ⟨S60x1920, .bf16⟩
  | .local _ .vmem, ⟨4, _⟩ => ⟨S256x1920, .fp8e4m3⟩
  | .local _ .vmem, ⟨5, _⟩ => ⟨S256x1920, .fp8e4m3⟩
  | .local _ .vmem, ⟨6, _⟩ => ⟨S256x60, .i8⟩
  | .local _ .vmem, ⟨7, _⟩ => ⟨S256x60, .i8⟩
  | .local _ .vmem, ⟨8, _⟩ => ⟨S256x1920, .bf16⟩
  | .local _ .vmem, ⟨9, _⟩ => ⟨S256x1920, .bf16⟩
  | .local _ .vmem, ⟨10, _⟩ => ⟨S3072x1920, .bf16⟩
  | .local _ .vmem, ⟨11, _⟩ => ⟨S512x1920, .fp8e4m3⟩
  | .local _ .vmem, ⟨12, _⟩ => ⟨S512x1920, .fp8e4m3⟩
  | .local _ .vmem, ⟨13, _⟩ => ⟨S512x60, .i8⟩
  | .local _ .vmem, ⟨14, _⟩ => ⟨S512x60, .i8⟩
  | .local _ .vmem, ⟨15, _⟩ => ⟨S60x1920, .bf16⟩
  | .local _ .vmem, ⟨16, _⟩ => ⟨S3072x512, .bf16⟩
  | .local _ .vmem, ⟨17, _⟩ => ⟨S3072x512, .bf16⟩
  | _, _ => ⟨S3x1024x1920, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_c : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_0 : Ref sig .tc := ⟨.hbm, 21, rfl⟩
abbrev main_call0_v12 : Ref sig .tc := ⟨.hbm, 22, rfl⟩
abbrev main_call0_v13 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_c_0 : Ref sig .tc := ⟨.hbm, 32, rfl⟩
abbrev main_v12 : Ref sig .tc := ⟨.hbm, 33, rfl⟩
abbrev main_v13 : Ref sig .tc := ⟨.hbm, 34, rfl⟩
abbrev main_c_1 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20_0 : Ref sig .tc := ⟨.hbm, 42, rfl⟩
abbrev main_v20_1 : Ref sig .tc := ⟨.hbm, 43, rfl⟩
abbrev main_v20_2 : Ref sig .tc := ⟨.hbm, 44, rfl⟩
abbrev main_v21 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg4_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem4_0 : DmaSem sig := 16
abbrev cc1_sem4_1 : DmaSem sig := 17

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1920 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1920x60 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S60x1920 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1920 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x60 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1920 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![9], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S3072x1920 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S512x1920 .fp8e4m3 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S512x60 .i8 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S60x1920 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S3072x512 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]
-- ==== ReferenceIdeal.lean ====
abbrev S3x1024x1920 : Shape := ⟨3, ![3, 1024, 1920]⟩
abbrev S4608x1920 : Shape := ⟨2, ![4608, 1920]⟩
abbrev S4608x60 : Shape := ⟨2, ![4608, 60]⟩
abbrev S3072x4608 : Shape := ⟨2, ![3072, 4608]⟩
abbrev S3072x1920 : Shape := ⟨2, ![3072, 1920]⟩
abbrev S3072x60 : Shape := ⟨2, ![3072, 60]⟩
abbrev S3072x60x32 : Shape := ⟨3, ![3072, 60, 32]⟩
abbrev S3072x60x253 : Shape := ⟨3, ![3072, 60, 253]⟩
abbrev S3072x60x1 : Shape := ⟨3, ![3072, 60, 1]⟩
abbrev S4608x60x32 : Shape := ⟨3, ![4608, 60, 32]⟩
abbrev S60x3072x4608 : Shape := ⟨3, ![60, 3072, 4608]⟩
abbrev S60x3072 : Shape := ⟨2, ![60, 3072]⟩
abbrev S60x4608 : Shape := ⟨2, ![60, 4608]⟩
abbrev S60x3072x1 : Shape := ⟨3, ![60, 3072, 1]⟩
abbrev S60x1x4608 : Shape := ⟨3, ![60, 1, 4608]⟩

abbrev nBuf : Space → Nat
  | .hbm => 6
  | .vmem => 6
  | .smem => 0
  | _ => 0

abbrev bufTy : (tb : Table) → Fin (tcTables nBuf tb) → BufTy
  | .hbm, ⟨0, _⟩ => ⟨S3x1024x1920, .bf16⟩
  | .hbm, ⟨1, _⟩ => ⟨S4608x1920, .fp8e4m3⟩
  | .hbm, ⟨2, _⟩ => ⟨S4608x60, .i8⟩
  | .hbm, ⟨3, _⟩ => ⟨S3072x4608, .bf16⟩
  | .hbm, ⟨4, _⟩ => ⟨S3072x1920, .fp8e4m3⟩
  | .hbm, ⟨5, _⟩ => ⟨S3072x60, .i8⟩
  | .local _ .vmem, ⟨0, _⟩ => ⟨S3x1024x1920, .bf16⟩
  | .local _ .vmem, ⟨1, _⟩ => ⟨S4608x1920, .fp8e4m3⟩
  | .local _ .vmem, ⟨2, _⟩ => ⟨S4608x60, .i8⟩
  | .local _ .vmem, ⟨3, _⟩ => ⟨S3072x4608, .bf16⟩
  | .local _ .vmem, ⟨4, _⟩ => ⟨S3072x1920, .fp8e4m3⟩
  | .local _ .vmem, ⟨5, _⟩ => ⟨S3072x60, .i8⟩
  | _, _ => ⟨S3x1024x1920, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S3x1024x1920 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4608x1920 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4608x60 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3072x4608 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3072x1920 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S3072x60 .i8 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.KernelRun.lean ====
/- The run of the idealized kernel, with its results: every execution ends with the three result arrays at what the two
   regions' write-backs leave in them, and the arguments as they were. -/
module

public import proofs.«01_k».proof.Proof.Gen.KernelIdeal.Frame

@[expose] public section

set_option maxRecDepth 16384

noncomputable section

namespace Cert.KernelIdeal.Value

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The product's array at the end is the second region's output array. -/
theorem W5_y (c : Dev nD) : W5 m ρ c (Proc.devRef .tc main_v21) = (dat1 (V4 m ρ) c).arrAt 4 cfg1.N :=
  W5_arr m ρ c 4

/-- The codes' array at the end is the first region's first output array. -/
theorem W5_codes (c : Dev nD) : W5 m ρ c (Proc.devRef .tc main_v20_0) = (dat0 (V3 m ρ) c).arrAt 3 cfg0.N :=
  (W5_of m ρ c main_v20_0 (by decide)).trans (W4_arr m ρ c 3)

/-- The scale bytes' array at the end is the first region's second output array. -/
theorem W5_scales (c : Dev nD) : W5 m ρ c (Proc.devRef .tc main_v20_1) = (dat0 (V3 m ρ) c).arrAt 4 cfg0.N :=
  (W5_of m ρ c main_v20_1 (by decide)).trans (W4_arr m ρ c 4)

set_option backward.isDefEq.respectTransparency.types false in
/-- The run with its results. -/
theorem run : θ_run defs (onTc (τ := τ) (main (F := F))) ⟨m, fun _ => 0, ρ⟩ (fun r => ∀ c : Dev nD,
      r.2.mem ((c.tc : Thread nD τ).loc main_v21) = (dat1 (V4 m ρ) c).arrAt 4 cfg1.N
      ∧ r.2.mem ((c.tc : Thread nD τ).loc main_v20_0) = (dat0 (V3 m ρ) c).arrAt 3 cfg0.N
      ∧ r.2.mem ((c.tc : Thread nD τ).loc main_v20_1) = (dat0 (V3 m ρ) c).arrAt 4 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz c =>
      ⟨(h c _ (mem_uc main_v21 (by decide))).trans (W5_y m ρ c),
       (h c _ (mem_uc main_v20_0 (by decide))).trans (W5_codes m ρ c),
       (h c _ (mem_uc main_v20_1 (by decide))).trans (W5_scales m ρ c),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c)⟩)

end Cert.KernelIdeal.Value

end

end
-- ==== Proof.Exponent.lean ====
/- The exponent of a block, as a function of the block's largest magnitude: the kernel finds it by a binary search
   over the powers of two, the reference by counting the powers of two that do not exceed the magnitude. This module
   proves the two equal over the extended reals, and bounds the exponent. -/
module

public import Idealize.ShloMosaic.PureOps.Ideal
public import Idealize.ShloMosaic.Lib.Pointwise
public import Mathlib.Data.Fintype.Card
public import Mathlib.Order.Interval.Finset.Fin

@[expose] public section

noncomputable section

namespace Cert.Mx

open Idealize.ShloMosaic

/-- `2 ^ n` for a 32-bit integer `n`, as both programs compute it. -/
def pow (n : BitVec 32) : EReal := FloatOps.exp2 (F := Ideal) (φ := .f32) (FloatOps.sitofp (F := Ideal) .f32 n)

/-- `pow` folds the two operations that spell it. -/
theorem pow_def (n : BitVec 32) : FloatOps.exp2 (F := Ideal) (φ := .f32) (FloatOps.sitofp (F := Ideal) .f32 n) = pow n := rfl

/-- `pow n` is the real number `2 ^ n`. -/
theorem pow_eq (n : BitVec 32) : pow n = (((2 : ℝ) ^ n.toInt : ℝ) : EReal) := by
  show Ideal.exp2 ((n.toInt : ℝ) : EReal) = _
  rw [Ideal.exp2_coe]
  exact congrArg _ (Real.rpow_intCast 2 n.toInt)

/-- `pow n` is not negative. -/
theorem pow_nonneg (n : BitVec 32) : 0 ≤ pow n := by
  rw [pow_eq]; exact_mod_cast (zpow_pos (by norm_num : (0 : ℝ) < 2) _).le

/-- `pow n` is not infinite. -/
theorem pow_ne_top (n : BitVec 32) : pow n ≠ ⊤ := by
  rw [pow_eq]; exact EReal.coe_ne_top _

/-- One step of the kernel's binary search: the field `f` goes up by `s` when the float whose exponent field is `f + s` and
    whose other bits are zero is at most `v`. -/
def step (v : EReal) (f s : BitVec 32) : BitVec 32 :=
  if Ideal.ofBits .f32 (IntOp.shli .vector (IntOp.addi f s) 23#32) ≤ v then IntOp.addi f s else f

/-- The kernel's binary search. -/
def search (v : EReal) : BitVec 32 :=
  step v (step v (step v (step v (step v (step v (step v (step v 0#32 126#32) 64#32) 32#32) 16#32) 8#32) 4#32) 2#32) 1#32

/-- The reference's count of the powers of two `2 ^ (-126), …, 2 ^ 126` that are at most `v`. -/
def count (v : EReal) : BitVec 32 :=
  Finset.fold IntOp.addi (0#32) (fun k : Fin 253 => BitVec.setWidth 32 (BitVec.ofBool (decide
    (pow (IntOp.subi (BitVec.ofNat 32 k.val) 126#32) ≤ v)))) Finset.univ

/-- The threshold of field `k`: `2 ^ (k - 127) ≤ v`. -/
def Reaches (v : EReal) (k : ℕ) : Prop := (((2 : ℝ) ^ ((k : ℤ) - 127) : ℝ) : EReal) ≤ v

/-- A smaller threshold is reached whenever a larger one is. -/
theorem Reaches.mono {v : EReal} {j k : ℕ} (h : Reaches v k) (hjk : j ≤ k) : Reaches v j := by
  refine le_trans ?_ h
  have hjk' : (j : ℤ) - 127 ≤ (k : ℤ) - 127 := by omega
  exact EReal.coe_le_coe_iff.2 (zpow_le_zpow_right₀ (by norm_num : (1 : ℝ) ≤ 2) hjk')

/-- The thresholds `1 … 253` reached are exactly those up to some `n`. -/
theorem exists_level (v : EReal) : ∃ n ≤ 253, ∀ k, 1 ≤ k → k ≤ 253 → (Reaches v k ↔ k ≤ n) := by
  classical
  refine ⟨Nat.findGreatest (Reaches v) 253, Nat.findGreatest_le _, fun k h1 h2 => ⟨fun h => Nat.le_findGreatest h2 h, fun h => ?_⟩⟩
  have hs : Reaches v (Nat.findGreatest (Reaches v) 253) :=
    Nat.findGreatest_of_ne_zero (m := Nat.findGreatest (Reaches v) 253) rfl (by omega)
  exact hs.mono h

/-- Two to the power of a small natural less a small constant, both 32-bit words. -/
theorem pow_sub (k c : ℕ) (hk : k ≤ 1000) (hc : c ≤ 1000) :
    pow (BitVec.ofNat 32 k - BitVec.ofNat 32 c) = (((2 : ℝ) ^ ((k : ℤ) - c) : ℝ) : EReal) := by
  rw [pow_eq]
  have : (BitVec.ofNat 32 k - BitVec.ofNat 32 c).toInt = (k : ℤ) - c := by
    have h1 : (BitVec.ofNat 32 k).toInt = k := by rw [BitVec.toInt_ofNat', Int.bmod_def]; omega
    have h2 : (BitVec.ofNat 32 c).toInt = c := by rw [BitVec.toInt_ofNat', Int.bmod_def]; omega
    rw [BitVec.toInt_sub, h1, h2, Int.bmod_def]; omega
  rw [this]

/-- A small natural shifted into the exponent field: the field, the fraction and the sign of the word. -/
theorem field_parts (k : ℕ) (hk : k < 254) : (BitVec.extractLsb' 23 8 (IntOp.shli .vector (BitVec.ofNat 32 k) 23#32)).toNat = k
    ∧ (BitVec.extractLsb' 0 23 (IntOp.shli .vector (BitVec.ofNat 32 k) 23#32)).toNat = 0
    ∧ (BitVec.extractLsb' (8 + 23) 1 (IntOp.shli .vector (BitVec.ofNat 32 k) 23#32) == 1#1) = false :=
  (by decide +kernel : ∀ k : Fin 254, (BitVec.extractLsb' 23 8 (IntOp.shli .vector (BitVec.ofNat 32 k.val) 23#32)).toNat = k.val
    ∧ (BitVec.extractLsb' 0 23 (IntOp.shli .vector (BitVec.ofNat 32 k.val) 23#32)).toNat = 0
    ∧ (BitVec.extractLsb' (8 + 23) 1 (IntOp.shli .vector (BitVec.ofNat 32 k.val) 23#32) == 1#1) = false) ⟨k, hk⟩

/-- The float whose exponent field is `k` and whose other bits are zero is `2 ^ (k - 127)`: the threshold the search
    compares with, at field `k`. -/
theorem ofBits_field (k : ℕ) (h1 : 1 ≤ k) (h2 : k ≤ 253) :
    Ideal.ofBits .f32 (IntOp.shli .vector (BitVec.ofNat 32 k) 23#32) = (((2 : ℝ) ^ ((k : ℤ) - 127) : ℝ) : EReal) := by
  obtain ⟨e1, e2, e3⟩ := field_parts k (by omega)
  generalize IntOp.shli .vector (BitVec.ofNat 32 k) 23#32 = w at e1 e2 e3 ⊢
  unfold Ideal.ofBits Ideal.ieee
  simp only [e1, e2, e3]
  rw [if_neg (by omega), if_neg (by omega)]
  congr 1
  have h : (2 : ℝ) ^ ((k : ℤ) - 127) = (2 : ℝ) ^ (23 : ℕ) * (2 : ℝ) ^ ((k : ℤ) - 127 - 23) := by
    rw [← zpow_natCast, ← zpow_add₀ (by norm_num : (2 : ℝ) ≠ 0)]
    congr 1
    push_cast
    ring
  rw [h]
  norm_num

/-- The threshold the count compares with, at position `k`: field `k + 1`'s. -/
theorem pow_field' (k : ℕ) (hk : k ≤ 1000) : pow (BitVec.ofNat 32 k - 126#32) = (((2 : ℝ) ^ (((k + 1 : ℕ) : ℤ) - 127) : ℝ) : EReal) := by
  rw [pow_sub k 126 hk (by omega)]
  have : (k : ℤ) - (126 : ℕ) = ((k + 1 : ℕ) : ℤ) - 127 := by omega
  rw [this]

/-- One step of the search, at a field that is a natural: with `n` the level, the step keeps `n` between the field
    and the field plus the steps that remain. -/
theorem step_inv (v : EReal) (n : ℕ) (hn : ∀ k, 1 ≤ k → k ≤ 253 → (Reaches v k ↔ k ≤ n)) (m r s : ℕ)
    (h1 : m ≤ n) (h2 : n ≤ m + r) (h3 : m + r ≤ 253) (h4 : 1 ≤ s) (h5 : s ≤ r) (h6 : 2 * s ≤ r + 1) :
    ∃ m', step v (BitVec.ofNat 32 m) (BitVec.ofNat 32 s) = BitVec.ofNat 32 m' ∧ m' ≤ n ∧ n ≤ m' + (r - s) ∧ m' + (r - s) ≤ 253 := by
  have hadd : IntOp.addi (BitVec.ofNat 32 m) (BitVec.ofNat 32 s) = BitVec.ofNat 32 (m + s) := (BitVec.ofNat_add ..).symm
  have hcond : Ideal.ofBits .f32 (IntOp.shli .vector (BitVec.ofNat 32 (m + s)) 23#32) ≤ v ↔ m + s ≤ n := by
    rw [ofBits_field _ (by omega) (by omega)]
    exact hn (m + s) (by omega) (by omega)
  unfold step
  rw [hadd]
  by_cases h : m + s ≤ n
  · exact ⟨m + s, by rw [if_pos (hcond.2 h)], by omega, by omega, by omega⟩
  · exact ⟨m, by rw [if_neg (fun hc => h (hcond.1 hc))], by omega, by omega, by omega⟩

/-- The search finds the level. -/
theorem search_level (v : EReal) (n : ℕ) (h : n ≤ 253) (hn : ∀ k, 1 ≤ k → k ≤ 253 → (Reaches v k ↔ k ≤ n)) :
    search v = BitVec.ofNat 32 n := by
  obtain ⟨m1, e1, a1, b1, c1⟩ := step_inv v n hn 0 253 126 (by omega) (by omega) (by omega) (by omega) (by omega) (by omega)
  obtain ⟨m2, e2, a2, b2, c2⟩ := step_inv v n hn m1 127 64 a1 b1 c1 (by omega) (by omega) (by omega)
  obtain ⟨m3, e3, a3, b3, c3⟩ := step_inv v n hn m2 63 32 a2 b2 c2 (by omega) (by omega) (by omega)
  obtain ⟨m4, e4, a4, b4, c4⟩ := step_inv v n hn m3 31 16 a3 b3 c3 (by omega) (by omega) (by omega)
  obtain ⟨m5, e5, a5, b5, c5⟩ := step_inv v n hn m4 15 8 a4 b4 c4 (by omega) (by omega) (by omega)
  obtain ⟨m6, e6, a6, b6, c6⟩ := step_inv v n hn m5 7 4 a5 b5 c5 (by omega) (by omega) (by omega)
  obtain ⟨m7, e7, a7, b7, c7⟩ := step_inv v n hn m6 3 2 a6 b6 c6 (by omega) (by omega) (by omega)
  obtain ⟨m8, e8, a8, b8, c8⟩ := step_inv v n hn m7 1 1 a7 b7 c7 (by omega) (by omega) (by omega)
  unfold search
  rw [e1, e2, e3, e4, e5, e6, e7, e8]
  congr 1
  omega

/-- Adding ones and zeros in 32-bit arithmetic counts the ones. -/
theorem fold_count {α : Type} (p : α → Prop) [DecidablePred p] (s : Finset α) :
    Finset.fold IntOp.addi (0#32) (fun k => BitVec.setWidth 32 (BitVec.ofBool (decide (p k)))) s = BitVec.ofNat 32 (s.filter p).card := by
  classical
  induction s using Finset.induction_on with
  | empty => rfl
  | insert a s ha ih =>
    rw [Finset.fold_insert ha, ih, Finset.filter_insert]
    by_cases h : p a
    · rw [if_pos h, Finset.card_insert_of_notMem (by simp [ha]), Nat.add_comm, BitVec.ofNat_add]
      simp only [h, decide_true]; rfl
    · rw [if_neg h]
      simp only [h, decide_false]
      exact BitVec.zero_add _

/-- The count is the level. -/
theorem count_level (v : EReal) (n : ℕ) (h : n ≤ 253) (hn : ∀ k, 1 ≤ k → k ≤ 253 → (Reaches v k ↔ k ≤ n)) :
    count v = BitVec.ofNat 32 n := by
  unfold count
  rw [fold_count (fun k : Fin 253 => pow (IntOp.subi (BitVec.ofNat 32 k.val) 126#32) ≤ v)]
  congr 1
  have : ∀ k : Fin 253, pow (IntOp.subi (BitVec.ofNat 32 k.val) 126#32) ≤ v ↔ k.val < n := fun k => by
    rw [show IntOp.subi (BitVec.ofNat 32 k.val) 126#32 = BitVec.ofNat 32 k.val - 126#32 from rfl, pow_field' _ (by omega)]
    exact (hn (k.val + 1) (by omega) (by omega)).trans (by omega)
  simp only [this]
  rw [Fin.card_filter_val_lt]; omega

/-- The binary search and the count agree. -/
theorem search_eq_count (v : EReal) : search v = count v := by
  obtain ⟨n, h, hn⟩ := exists_level v
  rw [search_level v n h hn, count_level v n h hn]

/-- The count is at most 253. -/
theorem count_le (v : EReal) : ∃ n ≤ 253, count v = BitVec.ofNat 32 n := by
  obtain ⟨n, h, hn⟩ := exists_level v
  exact ⟨n, h, count_level v n h hn⟩

/-- The float constant `1 / 448` rounded to f32, as an extended real. -/
def invMax : EReal := Ideal.ofBits .f32 991054117#32

/-- The exponent of a block whose largest magnitude is `a`, as the reference states it. -/
def expo (a : EReal) : BitVec 32 :=
  Scalar.select (IntOp.ori (BitVec.ofBool (decide (a = 0))) (IntOp.cmpi .eq (count (a * invMax)) 0#32)) (0#32)
    (IntOp.subi (count (a * invMax)) 126#32)

/-- The kernel's way to the same exponent: the search, then the two cases of a zero. -/
theorem expo_search (a : EReal) :
    (if a = 0 then (0#32) else Scalar.select (IntOp.cmpi .eq (search (a * invMax)) 0#32) (0#32)
      (IntOp.subi (search (a * invMax)) 126#32)) = expo a := by
  rw [search_eq_count, expo]
  generalize count (a * invMax) = n
  by_cases ha : a = 0
  · rw [if_pos ha, decide_eq_true ha]
    by_cases hn : n = 0#32
    · subst hn; rfl
    · simp [Scalar.select, IntOp.ori, IntOp.cmpi, beq_eq_false_iff_ne.2 hn]
  · rw [if_neg ha, decide_eq_false ha]
    by_cases hn : n = 0#32
    · subst hn; rfl
    · simp [Scalar.select, IntOp.ori, IntOp.cmpi, beq_eq_false_iff_ne.2 hn]

/-- The byte that encodes the exponent `e`: `e + 127`, clipped to `0 … 254`. -/
def byte (e : BitVec 32) : BitVec 8 :=
  BitVec.setWidth 8 (IntOp.minsi (254#32) (IntOp.maxsi (0#32) (IntOp.addi e 127#32)))

/-- Encoding an exponent and decoding it gives the exponent back: it is in the range of the encoding. -/
theorem decode_byte (a : EReal) : IntOp.subi (BitVec.setWidth 32 (byte (expo a))) 127#32 = expo a := by
  obtain ⟨n, h, hn⟩ := count_le (a * invMax)
  have key : ∀ n : Fin 254, IntOp.subi (BitVec.setWidth 32 (byte (BitVec.ofNat 32 n.val - 126#32))) 127#32 = BitVec.ofNat 32 n.val - 126#32 := by
    decide +kernel
  have key0 : IntOp.subi (BitVec.setWidth 32 (byte 0#32)) 127#32 = 0#32 := by decide +kernel
  unfold expo Scalar.select
  rw [hn]
  split
  · exact key0
  · exact key ⟨n, by omega⟩

end Cert.Mx

end

end
-- ==== Proof.Spec.lean ====
/- What both programs compute, element by element, as functions of the three argument arrays over the extended reals:
   the largest magnitude of a block, its exponent, the codes, the scale bytes, and the product. -/
module

public import proofs.«01_k».proof.Proof.Exponent
public import Idealize.ShloMosaic.Lib.Pointwise

@[expose] public section

set_option maxRecDepth 16384

noncomputable section

namespace Cert.Mx

open Idealize.ShloMosaic
open scoped BigOperators

/-- The activations: 3 sequences of 1024 tokens of 1920 features. -/
abbrev SX : Shape := ⟨3, ![3, 1024, 1920]⟩
/-- The weight codes: 4608 outputs by 1920 features. -/
abbrev SW : Shape := ⟨2, ![4608, 1920]⟩
/-- The weight scale bytes: one per output and block of 32 features. -/
abbrev SS : Shape := ⟨2, ![4608, 60]⟩

/-- The activation of token `r` (of all sequences, in order) at feature `k`. -/
def act (x : FVec Ideal SX .bf16) (r : Fin 3072) (k : Fin 1920) : EReal :=
  x (ix3 (⟨r.val / 1024, by omega⟩ : Fin 3) (⟨r.val % 1024, by omega⟩ : Fin 1024) k)

/-- Feature `i` of block `b`. -/
def feat (b : Fin 60) (i : Fin 32) : Fin 1920 := ⟨b.val * 32 + i.val, by omega⟩

/-- The block of feature `k`. -/
def blk (k : Fin 1920) : Fin 60 := ⟨k.val / 32, by omega⟩

/-- The largest magnitude of block `b` of token `r`. -/
def amax (x : FVec Ideal SX .bf16) (r : Fin 3072) (b : Fin 60) : EReal :=
  Finset.fold max (Ideal.ofBits .f32 4286578688#32)
    (fun i : Fin 32 => FloatOps.absf (F := Ideal) (φ := .f32) (act x r (feat b i))) Finset.univ

/-- The exponent of block `b` of token `r`. -/
def ex (x : FVec Ideal SX .bf16) (r : Fin 3072) (b : Fin 60) : BitVec 32 := expo (amax x r b)

/-- A value divided by a power of two and clipped to the largest code: `v * 2 ^ (-e)` between -448 and 448. -/
def quant (v : EReal) (e : BitVec 32) : EReal :=
  min (Ideal.ofBits .f32 1138753536#32) (max (Ideal.ofBits .f32 3286237184#32) (v * pow (IntOp.subi 0#32 e)))

/-- The code of feature `k` of token `r`. -/
def code (x : FVec Ideal SX .bf16) (r : Fin 3072) (k : Fin 1920) : EReal := quant (act x r k) (ex x r (blk k))

/-- The exponent a scale byte of the weights encodes. -/
def wexp (s : BitVec 8) : BitVec 32 := IntOp.subi (BitVec.setWidth 32 s) 127#32

/-- The product of token `r` with output row `c`: over the blocks, the sum of the codes' products times the two
    scales of the block. -/
def prod (x : FVec Ideal SX .bf16) (wc : FVec Ideal SW .fp8e4m3) (ws : IVec SS 8) (r : Fin 3072) (c : Fin 4608) : EReal :=
  ∑ b : Fin 60, (∑ i : Fin 32, code x r (feat b i) * wc (ix2 c (feat b i))) * pow (ex x r b) * pow (wexp (ws (ix2 c b)))

/-- The block of feature `i` of block `b` is `b`. -/
theorem blk_feat (b : Fin 60) (i : Fin 32) : blk (feat b i) = b := by
  apply Fin.ext; show (b.val * 32 + i.val) / 32 = b.val; omega

/-- A factor that is a power of two moves out of a sum of extended reals. -/
theorem sum_mul_pow {n : ℕ} (f : Fin n → EReal) (e : BitVec 32) : (∑ i, f i) * pow e = ∑ i, f i * pow e := by
  induction n with
  | zero => simp
  | succ n ih =>
    rw [Fin.sum_univ_succ, Fin.sum_univ_succ, EReal.right_distrib_of_nonneg_of_ne_top (pow_nonneg e) (pow_ne_top e), ih]

/-- The kernel's order of the product: every code is multiplied by its scale, every weight code by its own, and the
    contraction runs over all the features at once. -/
theorem sum_scaled (x : FVec Ideal SX .bf16) (wc : FVec Ideal SW .fp8e4m3) (ws : IVec SS 8) (r : Fin 3072) (c : Fin 4608) :
    ∑ k : Fin 1920, (code x r k * pow (ex x r (blk k))) * (wc (ix2 c k) * pow (wexp (ws (ix2 c (blk k))))) = prod x wc ws r c := by
  rw [Fin.sum_univ_tiles 60 32 rfl]
  refine Finset.sum_congr rfl fun b _ => ?_
  rw [sum_mul_pow, sum_mul_pow]
  refine Finset.sum_congr rfl fun i _ => ?_
  show (code x r (feat b i) * pow (ex x r (blk (feat b i)))) * (wc (ix2 c (feat b i)) * pow (wexp (ws (ix2 c (blk (feat b i)))))) = _
  rw [blk_feat]
  ac_rfl

/-- A sum against a row of zeros with a single one is the term at the one. -/
theorem sum_pick {n : ℕ} (f : Fin n → EReal) (g : Fin n) : ∑ i, f i * (if i = g then 1 else 0) = f g := by
  simp

end Cert.Mx

end

end
-- ==== Proof.Host.lean ====
/- What the kernel's host lines leave in the arrays the two regions read: the activations as a matrix, the matrix that
   selects the last lane of each block, and the one that repeats a block's value over its lanes. -/
module

public import proofs.«01_k».proof.Proof.Gen.KernelIdeal.Frame
public import proofs.«01_k».proof.Proof.Spec
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem Idealize.ShloMosaic.Tactic

namespace Cert.KernelIdeal.Value

open Cert.KernelIdeal Cert.KernelIdeal.Gen Cert.Mx

section Lines

variable (W : Valuation τ sig (Elt Ideal))

/-- The first line leaves each lane's number in its third array. -/
theorem lane_at (k : Fin 1920) : StableHlo.after hostOps0 W (Proc.devRef .tc main_v3) (ix2 0 k) = BitVec.ofNat 32 k.val := by
  after_results
  pointwise

/-- The first line's lane numbers. -/
theorem lanes_at (k : Fin 1920) : StableHlo.after hostOps0 W (Proc.devRef .tc main_v1) (ix1 k) = BitVec.ofNat 32 k.val := by
  after_results
  pointwise

/-- The first line's block numbers. -/
theorem blocks_at (b : Fin 60) : StableHlo.after hostOps0 W (Proc.devRef .tc main_v2) (ix1 b) = BitVec.ofNat 32 b.val := by
  after_results
  pointwise

/-- The first line's divisor is the block length. -/
theorem divisor_at (i : S_.Idx) : StableHlo.after hostOps0 W (Proc.devRef .tc main_c) i = 32#32 := by
  after_results
  pointwise

/-- The activations as a matrix: row `r` is token `r`'s activations. -/
theorem rows_at (r : Fin 3072) (k : Fin 1920) : StableHlo.after hostOps0 W (Proc.devRef .tc main_v0) (ix2 r k)
    = act (W (Proc.devRef .tc main_arg0)) r k := by
  after_results
  refine Eq.trans (b := (shapeCast S3072x1920 (W (Proc.devRef .tc main_arg0) : FVec Ideal S3x1024x1920 .bf16) shapeCasts_S3x1024x1920_S3072x1920) (ix2 r k)) rfl ?_
  pointwise
  rfl

/-- The outlined floor division, as one term of its two operands. -/
def floorDiv (v : IVec S1x1920 32) (d : IVec S_ 32) : IVec S1x1920 32 :=
  select
    (andi (cmpi .ne (signi v) (broadcastInDim S1x1920 ![] bcast_S_S1x1920 (signi d)))
      (cmpi .ne (Host.remsi v (broadcastInDim S1x1920 ![] bcast_S_S1x1920 d)) (broadcastInDim S1x1920 ![] bcast_S_S1x1920 (constantI S_ 32 0#32))))
    (subi (Host.divsi v (broadcastInDim S1x1920 ![] bcast_S_S1x1920 d)) (broadcastInDim S1x1920 ![] bcast_S_S1x1920 (constantI S_ 32 1#32)))
    (Host.divsi v (broadcastInDim S1x1920 ![] bcast_S_S1x1920 d))

/-- The second line leaves the floor division of its operands. -/
theorem floor_eq : StableHlo.after hostOps0_1 W (Proc.devRef .tc main_v4) = floorDiv (W (Proc.devRef .tc main_v3)) (W (Proc.devRef .tc main_c)) := by
  after_results
  rfl

/-- A lane's number floor-divided by the block length is its block's number: no lane's number is negative. -/
theorem floor_at (v : IVec S1x1920 32) (d : IVec S_ 32) (hv : ∀ k : Fin 1920, v (ix2 0 k) = BitVec.ofNat 32 k.val) (hd : ∀ i, d i = 32#32) (k : Fin 1920) :
    floorDiv v d (ix2 0 k) = BitVec.ofNat 32 (k.val / 32) := by
  pointwise [floorDiv]
  simp only [hv, hd]
  revert k
  decide +kernel

/-- The third line's first matrix: one where a lane's block is the row, else zero. -/
theorem expand_eq (g : Fin 60) (k : Fin 1920) : StableHlo.after hostOps0_2 W (Proc.devRef .tc main_v9) (ix2 g k) =
    FloatOps.uitofp (F := Ideal) .bf16 (IntOp.cmpi CmpIPredicate.eq (W (Proc.tc.devRef main_v4) (ix2 0 k)) (W (Proc.tc.devRef main_v2) (ix1 g))) := by
  after_results
  pointwise

/-- The third line's second matrix: one where the lane is the last of the column's block, else zero. -/
theorem pick_eq (g : Fin 60) (k : Fin 1920) : StableHlo.after hostOps0_2 W (Proc.devRef .tc main_v19) (ix2 k g) =
    FloatOps.uitofp (F := Ideal) .bf16
      (IntOp.cmpi CmpIPredicate.eq (W (Proc.tc.devRef main_v1) (ix1 k))
        (IntOp.addi (IntOp.muli (W (Proc.tc.devRef main_v2) (ix1 g)) 32#32) 31#32)) := by
  after_results
  pointwise

/-- A comparison for equality, as a float, is one or zero. -/
theorem flag_eq (a b : BitVec 32) : FloatOps.uitofp (F := Ideal) .bf16 (IntOp.cmpi CmpIPredicate.eq a b) = if a = b then (1 : EReal) else 0 := by
  show ((((IntOp.cmpi CmpIPredicate.eq a b).toNat : ℕ) : ℝ) : EReal) = _
  by_cases h : a = b
  · simp [IntOp.cmpi, h]
  · simp [IntOp.cmpi, h]

end Lines

section Entry

variable (m : (ℓ : Loc nD τ sig) → Buf (Elt Ideal) ℓ) (ρ : Dev nD → PrngReg)

/-- What the first region reads as activations is the first argument, by rows. -/
theorem x_at (c : Dev nD) (r : Fin 3072) (k : Fin 1920) :
    V3 m ρ c main_v0 (ix2 r k) = act (m ((c : Thread nD τ).loc main_arg0)) r k :=
  (congrFun ((W3_of m ρ c main_v0 (by decide)).trans (W2_of m ρ c main_v0 (by decide))) (ix2 r k)).trans (rows_at (W0 m ρ c) r k)

/-- The expansion matrix has its ones where the row is the lane's block. -/
theorem expand_at (c : Dev nD) (g : Fin 60) (k : Fin 1920) :
    V3 m ρ c main_v9 (ix2 g k) = if g = blk k then (1 : EReal) else 0 := by
  refine (expand_eq (W2 m ρ c) g k).trans ?_
  have h4 : W2 m ρ c (Proc.devRef .tc main_v4) (ix2 0 k) = BitVec.ofNat 32 (k.val / 32) :=
    (congrFun (floor_eq (W1 m ρ c)) (ix2 0 k)).trans
      (floor_at _ _ (fun k => lane_at (W0 m ρ c) k) (fun i => divisor_at (W0 m ρ c) i) k)
  have h2 : W2 m ρ c (Proc.devRef .tc main_v2) (ix1 g) = BitVec.ofNat 32 g.val :=
    (congrFun (W2_of m ρ c main_v2 (by decide)) (ix1 g)).trans (blocks_at (W0 m ρ c) g)
  refine (flag_eq _ _).trans ?_
  rw [h4, h2]
  have e : (BitVec.ofNat 32 (k.val / 32) = BitVec.ofNat 32 g.val) ↔ g = blk k := by
    constructor
    · intro h
      have h' := congrArg BitVec.toNat h
      simp only [BitVec.toNat_ofNat] at h'
      exact Fin.ext (by show g.val = k.val / 32; omega)
    · rintro rfl
      rfl
  simp only [e]

/-- The selection matrix has its ones where the lane is the last of the column's block. -/
theorem pick_at (c : Dev nD) (k : Fin 1920) (b : Fin 60) :
    V3 m ρ c main_v19 (ix2 k b) = if k = feat b 31 then (1 : EReal) else 0 := by
  refine (pick_eq (W2 m ρ c) b k).trans ?_
  have h1 : W2 m ρ c (Proc.devRef .tc main_v1) (ix1 k) = BitVec.ofNat 32 k.val :=
    (congrFun (W2_of m ρ c main_v1 (by decide)) (ix1 k)).trans (lanes_at (W0 m ρ c) k)
  have h2 : W2 m ρ c (Proc.devRef .tc main_v2) (ix1 b) = BitVec.ofNat 32 b.val :=
    (congrFun (W2_of m ρ c main_v2 (by decide)) (ix1 b)).trans (blocks_at (W0 m ρ c) b)
  refine (flag_eq _ _).trans ?_
  rw [h1, h2]
  have e : (BitVec.ofNat 32 k.val = IntOp.addi (IntOp.muli (BitVec.ofNat 32 b.val) 32#32) 31#32) ↔ k = feat b 31 := by
    have hr : IntOp.addi (IntOp.muli (BitVec.ofNat 32 b.val) 32#32) 31#32 = BitVec.ofNat 32 (b.val * 32 + 31) := by
      apply BitVec.eq_of_toNat_eq
      simp [IntOp.addi, IntOp.muli]
    rw [hr]
    constructor
    · intro h
      have h' := congrArg BitVec.toNat h
      simp only [BitVec.toNat_ofNat] at h'
      exact Fin.ext (by show k.val = b.val * 32 + 31; omega)
    · rintro rfl
      rfl
  simp only [e]

/-- The first region leaves the expansion matrix as it was. -/
theorem expand4_at (c : Dev nD) (g : Fin 60) (k : Fin 1920) :
    V4 m ρ c main_v9 (ix2 g k) = if g = blk k then (1 : EReal) else 0 :=
  (congrFun (W4_of m ρ c main_v9 (by decide)) (ix2 g k)).trans (expand_at m ρ c g k)

/-- The weight codes the second region reads are the second argument. -/
theorem codes4 (c : Dev nD) : V4 m ρ c main_arg1 = m ((c : Thread nD τ).loc main_arg1) :=
  W4_args m ρ c main_arg1 (by decide)

/-- The weight scales the second region reads are the third argument. -/
theorem scales4 (c : Dev nD) : V4 m ρ c main_arg2 = m ((c : Thread nD τ).loc main_arg2) :=
  W4_args m ρ c main_arg2 (by decide)

/-- The dequantised codes the second region reads are the first region's third output. -/
theorem deq4 (c : Dev nD) : V4 m ρ c main_v20_2 = (dat0 (V3 m ρ) c).arrAt 5 cfg0.N :=
  W4_arr m ρ c 5

end Entry

end Cert.KernelIdeal.Value

end

end
-- ==== Proof.Window.lean ====
/- The largest of a run of values, by doubling: the maximum over windows of length 1, 2, 4, … that end at a position. -/
module

public import proofs.«01_k».proof.Proof.Spec

@[expose] public section

noncomputable section

namespace Cert.Mx

open Idealize.ShloMosaic

/-- The largest of the `j` values of `f` at `k, k - 1, …, k - j + 1`. -/
def top (f : ℕ → EReal) (j k : ℕ) : EReal := (Finset.range j).sup fun i => f (k - i)

/-- A window of length one. -/
theorem top_one (f : ℕ → EReal) (k : ℕ) : top f 1 k = f k := by simp [top]

/-- A window of length `2 j` is two windows of length `j`, the second `j` positions back. -/
theorem top_double (f : ℕ → EReal) (j k : ℕ) : top f (2 * j) k = max (top f j k) (top f j (k - j)) := by
  unfold top
  apply le_antisymm
  · refine Finset.sup_le fun i hi => ?_
    have hi' := Finset.mem_range.1 hi
    by_cases h : i < j
    · exact le_max_of_le_left (Finset.le_sup (f := fun i => f (k - i)) (Finset.mem_range.2 h))
    · refine le_max_of_le_right ?_
      have : f (k - i) = f (k - j - (i - j)) := by congr 1; omega
      rw [this]
      exact Finset.le_sup (f := fun i => f (k - j - i)) (Finset.mem_range.2 (by omega : i - j < j))
  · refine max_le (Finset.sup_le fun i hi => ?_) (Finset.sup_le fun i hi => ?_)
    · have hi' := Finset.mem_range.1 hi
      exact Finset.le_sup (f := fun i => f (k - i)) (Finset.mem_range.2 (by omega : i < 2 * j))
    · have hi' := Finset.mem_range.1 hi
      have : f (k - j - i) = f (k - (j + i)) := by congr 1; omega
      rw [this]
      exact Finset.le_sup (f := fun i => f (k - i)) (Finset.mem_range.2 (by omega : j + i < 2 * j))

/-- The pattern of negative infinity denotes the least extended real. -/
theorem ofBits_neg_inf : Ideal.ofBits .f32 4286578688#32 = ⊥ := by
  unfold Ideal.ofBits Ideal.ieee
  have h1 : (BitVec.extractLsb' 23 8 (4286578688#32)).toNat = 2 ^ 8 - 1 := by decide
  have h2 : (BitVec.extractLsb' 0 23 (4286578688#32)).toNat = 0 := by decide
  have h3 : (BitVec.extractLsb' (8 + 23) 1 (4286578688#32) == 1#1) = true := by decide
  simp only [h1, h2, h3, if_true]

/-- The window of 32 values that ends at the last of a block is the block's maximum. -/
theorem top_block (f : ℕ → EReal) (b : ℕ) :
    top f 32 (b * 32 + 31) = Finset.fold max (Ideal.ofBits .f32 4286578688#32) (fun i : Fin 32 => f (b * 32 + i.val)) Finset.univ := by
  rw [ofBits_neg_inf]
  show _ = Finset.sup Finset.univ (fun i : Fin 32 => f (b * 32 + i.val))
  unfold top
  apply le_antisymm
  · refine Finset.sup_le fun i hi => ?_
    have hi' := Finset.mem_range.1 hi
    have : f (b * 32 + 31 - i) = f (b * 32 + (⟨31 - i, by omega⟩ : Fin 32).val) := by congr 1; show _ = b * 32 + (31 - i); omega
    rw [this]
    exact Finset.le_sup (f := fun i : Fin 32 => f (b * 32 + i.val)) (Finset.mem_univ _)
  · refine Finset.sup_le fun i _ => ?_
    have : f (b * 32 + i.val) = f (b * 32 + 31 - (31 - i.val)) := by congr 1; omega
    rw [this]
    exact Finset.le_sup (f := fun i => f (b * 32 + 31 - i)) (Finset.mem_range.2 (by omega : 31 - i.val < 32))

end Cert.Mx

end

end
-- ==== Proof.KernelValue.lean ====
/- What the bodies of the kernel's two regions store, element by element, given what the selection and expansion matrices
   hold. -/
module

public import proofs.«01_k».proof.Proof.Gen.KernelIdeal.Skeleton
public import proofs.«01_k».proof.Proof.Window
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.KernelIdeal.Value

open Cert.KernelIdeal Cert.KernelIdeal.Gen Cert.Mx

/-- The step by 1: windows of 1 become windows of 2. -/
theorem roll1 (f : ℕ → EReal) (v : FVec Ideal S256x1920 .f32) (r : Fin 256) (hv : ∀ k : Fin 1920, 1 ≤ k.val + 1 → v (ix2 r k) = top f 1 k.val)
    (k : Fin 1920) (hk : 2 ≤ k.val + 1) :
    maximumf v (dynamicRotate 1 1#32 none v rotates_S256x1920_d1) (ix2 r k) = top f 2 k.val := by
  have h : maximumf v (dynamicRotate 1 1#32 none v rotates_S256x1920_d1) (ix2 r k)
      = max (v (ix2 r k)) (v (ix2 r (⟨(k.val + 1920 - 1) % 1920, Nat.mod_lt _ (by decide)⟩ : Fin 1920))) := by
    pointwise
  have hm : (k.val + 1920 - 1) % 1920 = k.val - 1 := by omega
  rw [h, hv k (by omega), hv _ (by show 1 ≤ (k.val + 1920 - 1) % 1920 + 1; omega)]
  show max _ (top f 1 ((k.val + 1920 - 1) % 1920)) = _
  rw [hm]
  exact (top_double f 1 k.val).symm

/-- The step by 2: windows of 2 become windows of 4. -/
theorem roll2 (f : ℕ → EReal) (v : FVec Ideal S256x1920 .f32) (r : Fin 256) (hv : ∀ k : Fin 1920, 2 ≤ k.val + 1 → v (ix2 r k) = top f 2 k.val)
    (k : Fin 1920) (hk : 4 ≤ k.val + 1) :
    maximumf v (dynamicRotate 1 2#32 none v rotates_S256x1920_d1) (ix2 r k) = top f 4 k.val := by
  have h : maximumf v (dynamicRotate 1 2#32 none v rotates_S256x1920_d1) (ix2 r k)
      = max (v (ix2 r k)) (v (ix2 r (⟨(k.val + 1920 - 2) % 1920, Nat.mod_lt _ (by decide)⟩ : Fin 1920))) := by
    pointwise
  have hm : (k.val + 1920 - 2) % 1920 = k.val - 2 := by omega
  rw [h, hv k (by omega), hv _ (by show 2 ≤ (k.val + 1920 - 2) % 1920 + 1; omega)]
  show max _ (top f 2 ((k.val + 1920 - 2) % 1920)) = _
  rw [hm]
  exact (top_double f 2 k.val).symm

/-- The step by 4: windows of 4 become windows of 8. -/
theorem roll4 (f : ℕ → EReal) (v : FVec Ideal S256x1920 .f32) (r : Fin 256) (hv : ∀ k : Fin 1920, 4 ≤ k.val + 1 → v (ix2 r k) = top f 4 k.val)
    (k : Fin 1920) (hk : 8 ≤ k.val + 1) :
    maximumf v (dynamicRotate 1 4#32 none v rotates_S256x1920_d1) (ix2 r k) = top f 8 k.val := by
  have h : maximumf v (dynamicRotate 1 4#32 none v rotates_S256x1920_d1) (ix2 r k)
      = max (v (ix2 r k)) (v (ix2 r (⟨(k.val + 1920 - 4) % 1920, Nat.mod_lt _ (by decide)⟩ : Fin 1920))) := by
    pointwise
  have hm : (k.val + 1920 - 4) % 1920 = k.val - 4 := by omega
  rw [h, hv k (by omega), hv _ (by show 4 ≤ (k.val + 1920 - 4) % 1920 + 1; omega)]
  show max _ (top f 4 ((k.val + 1920 - 4) % 1920)) = _
  rw [hm]
  exact (top_double f 4 k.val).symm

/-- The step by 8: windows of 8 become windows of 16. -/
theorem roll8 (f : ℕ → EReal) (v : FVec Ideal S256x1920 .f32) (r : Fin 256) (hv : ∀ k : Fin 1920, 8 ≤ k.val + 1 → v (ix2 r k) = top f 8 k.val)
    (k : Fin 1920) (hk : 16 ≤ k.val + 1) :
    maximumf v (dynamicRotate 1 8#32 none v rotates_S256x1920_d1) (ix2 r k) = top f 16 k.val := by
  have h : maximumf v (dynamicRotate 1 8#32 none v rotates_S256x1920_d1) (ix2 r k)
      = max (v (ix2 r k)) (v (ix2 r (⟨(k.val + 1920 - 8) % 1920, Nat.mod_lt _ (by decide)⟩ : Fin 1920))) := by
    pointwise
  have hm : (k.val + 1920 - 8) % 1920 = k.val - 8 := by omega
  rw [h, hv k (by omega), hv _ (by show 8 ≤ (k.val + 1920 - 8) % 1920 + 1; omega)]
  show max _ (top f 8 ((k.val + 1920 - 8) % 1920)) = _
  rw [hm]
  exact (top_double f 8 k.val).symm

/-- The step by 16: windows of 16 become windows of 32. -/
theorem roll16 (f : ℕ → EReal) (v : FVec Ideal S256x1920 .f32) (r : Fin 256) (hv : ∀ k : Fin 1920, 16 ≤ k.val + 1 → v (ix2 r k) = top f 16 k.val)
    (k : Fin 1920) (hk : 32 ≤ k.val + 1) :
    maximumf v (dynamicRotate 1 16#32 none v rotates_S256x1920_d1) (ix2 r k) = top f 32 k.val := by
  have h : maximumf v (dynamicRotate 1 16#32 none v rotates_S256x1920_d1) (ix2 r k)
      = max (v (ix2 r k)) (v (ix2 r (⟨(k.val + 1920 - 16) % 1920, Nat.mod_lt _ (by decide)⟩ : Fin 1920))) := by
    pointwise
  have hm : (k.val + 1920 - 16) % 1920 = k.val - 16 := by omega
  rw [h, hv k (by omega), hv _ (by show 16 ≤ (k.val + 1920 - 16) % 1920 + 1; omega)]
  show max _ (top f 16 ((k.val + 1920 - 16) % 1920)) = _
  rw [hm]
  exact (top_double f 16 k.val).symm

/-- The product with the selection matrix, at one block. -/
theorem select_at (A : FVec Ideal S256x1920 .f32) (s : FVec Ideal S1920x60 .bf16) (r : Fin 256) (b : Fin 60) :
    matmul dot_S256x1920_S1920x60_S256x60_1_0_0_1_n_n none (truncf .bf16 A bitsLt_bf16_f32) (shapeCast S1920x60 s shapeCasts_S1920x60_S1920x60)
      (constant S256x60 .f32 0x00000000#32) (ix2 r b) = ∑ k : Fin 1920, A (ix2 r k) * s (ix2 k b) := by
  pointwise

/-- Row `r` of a tile's magnitudes, as a function of the lane. -/
def mag (x : FVec Ideal S256x1920 .bf16) (r : Fin 256) (n : ℕ) : EReal :=
  if h : n < 1920 then FloatOps.absf (F := Ideal) (φ := .f32) (x (ix2 r (⟨n, h⟩ : Fin 1920))) else ⊥

/-- With the selection matrix picking the last lane of each block, the first kernel finds each block's largest magnitude. -/
theorem amax_at (x : FVec Ideal S256x1920 .bf16) (s : FVec Ideal S1920x60 .bf16)
    (hs : ∀ (k : Fin 1920) (b : Fin 60), s (ix2 k b) = if k = feat b 31 then 1 else 0) (r : Fin 256) (b : Fin 60) :
    k0_pay7 (F := Ideal) x s (ix2 r b) = Finset.fold max (Ideal.ofBits .f32 4286578688#32)
      (fun i : Fin 32 => FloatOps.absf (F := Ideal) (φ := .f32) (x (ix2 r (feat b i)))) Finset.univ := by
  have h0 : ∀ k : Fin 1920, 1 ≤ k.val + 1 → absf (k0_pay6 (F := Ideal) x) (ix2 r k) = top (mag x r) 1 k.val := fun k _ => by
    rw [top_one, mag, dif_pos k.isLt]
    pointwise [k0_pay6]
  have h1 := roll1 (mag x r) _ r h0
  have h2 := roll2 (mag x r) _ r h1
  have h3 := roll4 (mag x r) _ r h2
  have h4 := roll8 (mag x r) _ r h3
  have h5 := roll16 (mag x r) _ r h4
  refine (select_at _ s r b).trans ?_
  simp only [hs]
  rw [sum_pick]
  refine (h5 (feat b 31) (by show 32 ≤ b.val * 32 + 31 + 1; omega)).trans ?_
  refine (top_block (mag x r) b.val).trans ?_
  refine congrArg (fun f => Finset.fold max _ f Finset.univ) (funext fun i => ?_)
  rw [mag, dif_pos (by omega : b.val * 32 + i.val < 1920)]
  rfl

/-- The scaled largest magnitude. -/
theorem scaled_at (x : FVec Ideal S256x1920 .bf16) (s : FVec Ideal S1920x60 .bf16) (r : Fin 256) (b : Fin 60) :
    k0_pay8 (F := Ideal) x s (ix2 r b) = k0_pay7 (F := Ideal) x s (ix2 r b) * invMax := by
  pointwise [k0_pay8]
  rfl

/-- One step of the search, on vectors. -/
def vstep (v : FVec Ideal S256x60 .f32) (f : IVec S256x60 32) (n : BitVec 32) : IVec S256x60 32 :=
  select (cmpf .oge v (bitcastToFloat .f32 (shli (addi f (broadcast S256x60 n)) (broadcast S256x60 23#32)))) (addi f (broadcast S256x60 n)) f

/-- The vector step, at one block. -/
theorem step_at (v : FVec Ideal S256x60 .f32) (f : IVec S256x60 32) (n : BitVec 32) (r : Fin 256) (b : Fin 60) :
    vstep v f n (ix2 r b) = step (v (ix2 r b)) (f (ix2 r b)) n := by
  pointwise [vstep]
  rfl

/-- The search, on vectors. -/
def vsearch (v : FVec Ideal S256x60 .f32) : IVec S256x60 32 :=
  vstep v (vstep v (vstep v (vstep v (vstep v (vstep v (vstep v (vstep v (broadcast S256x60 0#32) 126#32) 64#32) 32#32) 16#32) 8#32) 4#32) 2#32) 1#32

/-- The vector search, at one block. -/
theorem search_at (v : FVec Ideal S256x60 .f32) (r : Fin 256) (b : Fin 60) : vsearch v (ix2 r b) = search (v (ix2 r b)) := by
  unfold vsearch search
  simp only [step_at]
  rfl

/-- The exponent from the search's field: zero where the field is zero. -/
def vexp (f : IVec S256x60 32) : IVec S256x60 32 :=
  select (cmpi .eq f (broadcast S256x60 0#32)) (broadcast S256x60 0#32) (subi f (broadcast S256x60 126#32))

/-- The exponent from the search's field, at one block. -/
theorem vexp_at (f : IVec S256x60 32) (r : Fin 256) (b : Fin 60) :
    vexp f (ix2 r b) = Scalar.select (IntOp.cmpi .eq (f (ix2 r b)) 0#32) (0#32) (IntOp.subi (f (ix2 r b)) 126#32) := by
  pointwise [vexp]

/-- The exponent of a block of zeros is zero. -/
theorem zero_at (v82 : IVec S256x60 32) (v17 : FVec Ideal S256x60 .f32) (r : Fin 256) (b : Fin 60) :
    k0_pay1 v82 (k0_pay13 v17) k0_pay14 (ix2 r b) = if v17 (ix2 r b) = 0 then (0#32) else v82 (ix2 r b) := by
  pointwise [k0_pay1, k0_pay13, k0_pay14]

/-- The exponents of a tile before blocks of zeros are seen to, as the first kernel computes them. -/
abbrev fPay (x : FVec Ideal S256x1920 .bf16) (s : FVec Ideal S1920x60 .bf16) : IVec S256x60 32 :=
  k0_pay12 (k0_pay8 (F := Ideal) x s) (k0_pay9 (F := Ideal) x s) (k0_pay10 (F := Ideal) x s) (k0_pay11 (F := Ideal) x s)

/-- The exponents of a tile, as the first kernel computes them. -/
abbrev ePay (x : FVec Ideal S256x1920 .bf16) (s : FVec Ideal S1920x60 .bf16) : IVec S256x60 32 :=
  k0_pay1 (fPay x s) (k0_pay13 (k0_pay7 (F := Ideal) x s)) k0_pay14

/-- The first kernel's exponents are the vector search's. -/
theorem fPay_eq (x : FVec Ideal S256x1920 .bf16) (s : FVec Ideal S1920x60 .bf16) : fPay x s = vexp (vsearch (k0_pay8 (F := Ideal) x s)) := rfl

/-- The exponent of a block is the reference's function of its largest magnitude. -/
theorem ex_at (x : FVec Ideal S256x1920 .bf16) (s : FVec Ideal S1920x60 .bf16)
    (r : Fin 256) (b : Fin 60) : ePay x s (ix2 r b) = expo (k0_pay7 (F := Ideal) x s (ix2 r b)) := by
  refine (zero_at _ _ r b).trans ?_
  rw [fPay_eq, vexp_at, search_at, scaled_at]
  exact expo_search _

/-- The stored code, with the expansion matrix repeating each block's scale over its lanes. -/
theorem code_at (v2 : FVec Ideal S256x1920 .f32) (v82 : IVec S256x60 32) (v84 : IVec S256x60 1) (v85 : IVec S256x60 32) (p : FVec Ideal S60x1920 .bf16)
    (hp : ∀ (g : Fin 60) (k : Fin 1920), p (ix2 g k) = if g = blk k then 1 else 0) (r : Fin 256) (k : Fin 1920) :
    k0_pay3 (F := Ideal) v2 v82 v84 v85 p (ix2 r k) = quant (v2 (ix2 r k)) (k0_pay1 v82 v84 v85 (ix2 r (blk k))) := by
  have h : k0_pay3 (F := Ideal) v2 v82 v84 v85 p (ix2 r k) = min (Ideal.ofBits .f32 1138753536#32) (max (Ideal.ofBits .f32 3286237184#32)
      (v2 (ix2 r k) * ∑ g : Fin 60, pow (IntOp.subi 0#32 (k0_pay1 v82 v84 v85 (ix2 r g))) * p (ix2 g k))) := by
    pointwise [k0_pay3, k0_pay2]
    rfl
  rw [h]
  simp only [hp]
  rw [sum_pick]
  rfl

/-- The dequantised code: the code times its block's scale. -/
theorem deq_at (v2 : FVec Ideal S256x1920 .f32) (v82 : IVec S256x60 32) (v84 : IVec S256x60 1) (v85 : IVec S256x60 32) (p : FVec Ideal S60x1920 .bf16)
    (hp : ∀ (g : Fin 60) (k : Fin 1920), p (ix2 g k) = if g = blk k then 1 else 0) (r : Fin 256) (k : Fin 1920) :
    k0_pay5 (F := Ideal) v2 v82 v84 v85 p (ix2 r k) = quant (v2 (ix2 r k)) (k0_pay1 v82 v84 v85 (ix2 r (blk k)))
      * pow (k0_pay1 v82 v84 v85 (ix2 r (blk k))) := by
  have h : k0_pay5 (F := Ideal) v2 v82 v84 v85 p (ix2 r k) = k0_pay3 (F := Ideal) v2 v82 v84 v85 p (ix2 r k)
      * ∑ g : Fin 60, pow (k0_pay1 v82 v84 v85 (ix2 r g)) * p (ix2 g k) := by
    pointwise [k0_pay5, k0_pay2]
    rfl
  rw [h, code_at v2 v82 v84 v85 p hp]
  simp only [hp]
  rw [sum_pick]

/-- The stored scale byte. -/
theorem byte_at (v82 : IVec S256x60 32) (v84 : IVec S256x60 1) (v85 : IVec S256x60 32) (r : Fin 256) (b : Fin 60) :
    k0_pay4 v82 v84 v85 (ix2 r b) = byte (k0_pay1 v82 v84 v85 (ix2 r b)) := by
  pointwise [k0_pay4]
  rfl

/-- The product of a row of dequantised codes with a row of scaled weight codes. -/
theorem dot_at (ws : IVec S512x60 8) (p : FVec Ideal S60x1920 .bf16) (wc : FVec Ideal S512x1920 .fp8e4m3) (xd : FVec Ideal S3072x1920 .bf16)
    (hp : ∀ (g : Fin 60) (k : Fin 1920), p (ix2 g k) = if g = blk k then 1 else 0) (r : Fin 3072) (c : Fin 512) :
    k1_pay1 (F := Ideal) ws p wc xd (ix2 r c) = ∑ k : Fin 1920, xd (ix2 r k) * (wc (ix2 c k) * pow (wexp (ws (ix2 c (blk k))))) := by
  have h : k1_pay1 (F := Ideal) ws p wc xd (ix2 r c)
      = ∑ k : Fin 1920, xd (ix2 r k) * (wc (ix2 c k) * ∑ g : Fin 60, pow (wexp (ws (ix2 c g))) * p (ix2 g k)) := by
    pointwise [k1_pay1]
    rfl
  rw [h]
  refine Finset.sum_congr rfl fun k _ => ?_
  simp only [hp]
  rw [sum_pick]

end Cert.KernelIdeal.Value

end

end
-- ==== Proof.KernelArrays.lean ====
/- The first region's output arrays: the codes, the scale bytes and the dequantised codes, from its tiles of rows. -/
module

public import proofs.«01_k».proof.Proof.Host
public import proofs.«01_k».proof.Proof.KernelValue

@[expose] public section

set_option maxRecDepth 16384

noncomputable section

open Idealize.ShloMosaic Idealize.ShloMosaic.TcCoe Idealize.SL.Sem Idealize.ShloMosaic.Tactic
open Idealize.ShloMosaic.Pipeline (Dat)

namespace Cert.KernelIdeal.Value

open Cert.KernelIdeal Cert.KernelIdeal.Gen Cert.Mx

variable (m : (ℓ : Loc nD τ sig) → Buf (Elt Ideal) ℓ) (ρ : Dev nD → PrngReg)

/-- The index map of every window of the first region: the tile of rows, or the whole array. -/
theorem idx0 : ∀ t : Fin cfg0.N, win0_0.index t = ![t.val, 0] ∧ win0_1.index t = ![0, 0] ∧ win0_2.index t = ![0, 0]
    ∧ win0_3.index t = ![t.val, 0] ∧ win0_4.index t = ![t.val, 0] ∧ win0_5.index t = ![t.val, 0] :=
  (by decide +kernel : ∀ t : Fin grid0.N, _)

/-- The codes' array. -/
def codes (x : FVec Ideal SX .bf16) : FVec Ideal S3072x1920 .fp8e4m3 := fun i => code x (i 0) (i 1)

/-- The scale bytes' array. -/
def scales (x : FVec Ideal SX .bf16) : IVec S3072x60 8 := fun i => byte (ex x (i 0) (i 1))

/-- The dequantised codes' array. -/
def deqs (x : FVec Ideal SX .bf16) : FVec Ideal S3072x1920 .bf16 := fun i => code x (i 0) (i 1) * pow (ex x (i 0) (blk (i 1)))

/-- Row `r` of tile `t`. -/
def trow (t : Fin cfg0.N) (r : Fin 256) : Fin 3072 := ⟨t.val * 256 + r.val, by have h := t.isLt; have e : cfg0.N = 12 := rfl; omega⟩

section Tile

variable (X : FVec Ideal SX .bf16) (t : Fin cfg0.N) (x : FVec Ideal S256x1920 .bf16) (s : FVec Ideal S1920x60 .bf16) (p : FVec Ideal S60x1920 .bf16)
  (hx : ∀ (r : Fin 256) (k : Fin 1920), x (ix2 r k) = act X (trow t r) k)
  (hs : ∀ (k : Fin 1920) (b : Fin 60), s (ix2 k b) = if k = feat b 31 then 1 else 0)
  (hp : ∀ (g : Fin 60) (k : Fin 1920), p (ix2 g k) = if g = blk k then 1 else 0)

include hx hs in
/-- A tile's exponents are the rows' exponents. -/
theorem tile_ex (r : Fin 256) (b : Fin 60) : ePay x s (ix2 r b) = ex X (trow t r) b := by
  rw [ex_at, amax_at x s hs]
  simp only [hx]
  rfl

include hx in
/-- A tile's activations in the wide format are the same values. -/
theorem tile_x (r : Fin 256) (k : Fin 1920) : k0_pay6 (F := Ideal) x (ix2 r k) = act X (trow t r) k :=
  (show k0_pay6 (F := Ideal) x (ix2 r k) = x (ix2 r k) by pointwise [k0_pay6]).trans (hx r k)

include hx hs hp in
/-- A tile's codes. -/
theorem tile_code (r : Fin 256) (k : Fin 1920) :
    k0_pay3 (F := Ideal) (k0_pay6 x) (fPay x s) (k0_pay13 (k0_pay7 (F := Ideal) x s)) k0_pay14 p (ix2 r k)
      = codes X (ix2 (trow t r) k) := by
  show _ = code X (trow t r) k
  rw [code_at _ _ _ _ p hp, tile_x X t x hx]
  exact congrArg (quant _) (tile_ex X t x s hx hs r (blk k))

include hx hs in
/-- A tile's scale bytes. -/
theorem tile_byte (r : Fin 256) (b : Fin 60) :
    k0_pay4 (fPay x s) (k0_pay13 (k0_pay7 (F := Ideal) x s)) k0_pay14 (ix2 r b)
      = scales X (ix2 (trow t r) b) := by
  show _ = byte (ex X (trow t r) b)
  rw [byte_at]
  exact congrArg byte (tile_ex X t x s hx hs r b)

include hx hs hp in
/-- A tile's dequantised codes. -/
theorem tile_deq (r : Fin 256) (k : Fin 1920) :
    k0_pay5 (F := Ideal) (k0_pay6 x) (fPay x s) (k0_pay13 (k0_pay7 (F := Ideal) x s)) k0_pay14 p (ix2 r k)
      = deqs X (ix2 (trow t r) k) := by
  show _ = code X (trow t r) k * pow (ex X (trow t r) (blk k))
  rw [deq_at _ _ _ _ p hp, tile_x X t x hx]
  exact congrArg (fun e => quant (act X (trow t r) k) e * pow e) (tile_ex X t x s hx hs r (blk k))

end Tile

/-- The first region's block of activations. -/
theorem blk0_0 (c : Dev nD) (t : Fin cfg0.N) (r : Fin 256) (k : Fin 1920) :
    (iblk0 (V3 m ρ) c 0 t : FVec Ideal S256x1920 .bf16) (ix2 r k) = act (m ((c : Thread nD τ).loc main_arg0)) (trow t r) k := by
  rw [← x_at m ρ c]
  unfold trow
  blk_point [iblk0, idx0 t]

/-- The first region's block of the selection matrix. -/
theorem blk0_1 (c : Dev nD) (t : Fin cfg0.N) (k : Fin 1920) (b : Fin 60) :
    (iblk0 (V3 m ρ) c 1 t : FVec Ideal S1920x60 .bf16) (ix2 k b) = if k = feat b 31 then (1 : EReal) else 0 := by
  rw [← pick_at m ρ c]
  blk_point [iblk0, idx0 t]

/-- The first region's block of the expansion matrix. -/
theorem blk0_2 (c : Dev nD) (t : Fin cfg0.N) (g : Fin 60) (k : Fin 1920) :
    (iblk0 (V3 m ρ) c 2 t : FVec Ideal S60x1920 .bf16) (ix2 g k) = if g = blk k then (1 : EReal) else 0 := by
  rw [← expand_at m ρ c]
  blk_point [iblk0, idx0 t]

/-- Where output 3's block `t` lies in its array. -/
theorem emb0_3 (t : Fin cfg0.N) (r : Fin 256) (k : Fin 1920) :
    ((View.whole main_v20_0).slice (win0_3.rect t)).emb (ix2 r k) = ix2 (trow t r) k := by
  unfold trow
  blk_ext [idx0 t]

/-- Where output 4's block `t` lies in its array. -/
theorem emb0_4 (t : Fin cfg0.N) (r : Fin 256) (k : Fin 60) :
    ((View.whole main_v20_1).slice (win0_4.rect t)).emb (ix2 r k) = ix2 (trow t r) k := by
  unfold trow
  blk_ext [idx0 t]

/-- Where output 5's block `t` lies in its array. -/
theorem emb0_5 (t : Fin cfg0.N) (r : Fin 256) (k : Fin 1920) :
    ((View.whole main_v20_2).slice (win0_5.rect t)).emb (ix2 r k) = ix2 (trow t r) k := by
  unfold trow
  blk_ext [idx0 t]

/-- The first region's codes. -/
theorem arr0_3 (c : Dev nD) : (dat0 (V3 m ρ) c).arrAt 3 cfg0.N = codes (m ((c : Thread nD τ).loc main_arg0)) := by
  refine (dat0 (V3 m ρ) c).arrAt_eq_of_covers 3 _ (by decide +kernel) fun t _ y => ?_
  blk_simp
  rw [after0_3]
  unfold_out out0_3
  frame_out
  idx_vars y
  have hh := tile_code (m ((c : Thread nD τ).loc main_arg0)) t (iblk0 (V3 m ρ) c 0 t) (iblk0 (V3 m ρ) c 1 t) (iblk0 (V3 m ρ) c 2 t)
    (blk0_0 m ρ c t) (blk0_1 m ρ c t) (blk0_2 m ρ c t) y0 y1
  exact hh.trans (congrArg (codes (m ((c : Thread nD τ).loc main_arg0))) (emb0_3 t y0 y1)).symm

/-- The first region's scale bytes. -/
theorem arr0_4 (c : Dev nD) : (dat0 (V3 m ρ) c).arrAt 4 cfg0.N = scales (m ((c : Thread nD τ).loc main_arg0)) := by
  refine (dat0 (V3 m ρ) c).arrAt_eq_of_covers 4 _ (by decide +kernel) fun t _ y => ?_
  blk_simp
  rw [after0_4]
  unfold_out out0_4
  frame_out
  idx_vars y
  have hh := tile_byte (m ((c : Thread nD τ).loc main_arg0)) t (iblk0 (V3 m ρ) c 0 t) (iblk0 (V3 m ρ) c 1 t)
    (blk0_0 m ρ c t) (blk0_1 m ρ c t) y0 y1
  exact hh.trans (congrArg (scales (m ((c : Thread nD τ).loc main_arg0))) (emb0_4 t y0 y1)).symm

/-- The first region's dequantised codes. -/
theorem arr0_5 (c : Dev nD) : (dat0 (V3 m ρ) c).arrAt 5 cfg0.N = deqs (m ((c : Thread nD τ).loc main_arg0)) := by
  refine (dat0 (V3 m ρ) c).arrAt_eq_of_covers 5 _ (by decide +kernel) fun t _ y => ?_
  blk_simp
  rw [after0_5]
  unfold_out out0_5
  frame_out
  idx_vars y
  have hh := tile_deq (m ((c : Thread nD τ).loc main_arg0)) t (iblk0 (V3 m ρ) c 0 t) (iblk0 (V3 m ρ) c 1 t) (iblk0 (V3 m ρ) c 2 t)
    (blk0_0 m ρ c t) (blk0_1 m ρ c t) (blk0_2 m ρ c t) y0 y1
  exact hh.trans (congrArg (deqs (m ((c : Thread nD τ).loc main_arg0))) (emb0_5 t y0 y1)).symm

end Cert.KernelIdeal.Value

end

end
-- ==== Proof.KernelProd.lean ====
/- The second region's output array, from its tiles of columns. -/
module

public import proofs.«01_k».proof.Proof.KernelArrays

@[expose] public section

set_option maxRecDepth 16384

noncomputable section

open Idealize.ShloMosaic Idealize.ShloMosaic.TcCoe Idealize.SL.Sem Idealize.ShloMosaic.Tactic
open Idealize.ShloMosaic.Pipeline (Dat)

namespace Cert.KernelIdeal.Value

open Cert.KernelIdeal Cert.KernelIdeal.Gen Cert.Mx

variable (m : (ℓ : Loc nD τ sig) → Buf (Elt Ideal) ℓ) (ρ : Dev nD → PrngReg)

/-- The index map of every window of the second region: the tile of columns, or the whole array. -/
theorem idx1 : ∀ t : Fin cfg1.N, win1_0.index t = ![0, 0] ∧ win1_1.index t = ![t.val, 0] ∧ win1_2.index t = ![t.val, 0]
    ∧ win1_3.index t = ![0, 0] ∧ win1_4.index t = ![0, t.val] :=
  (by decide +kernel : ∀ t : Fin grid1.N, _)

/-- Column `c` of tile `t`. -/
def tcol (t : Fin cfg1.N) (c : Fin 512) : Fin 4608 := ⟨t.val * 512 + c.val, by have h := t.isLt; have e : cfg1.N = 9 := rfl; omega⟩

/-- The product's array. -/
def prods (x : FVec Ideal SX .bf16) (wc : FVec Ideal SW .fp8e4m3) (ws : IVec SS 8) : FVec Ideal S3072x4608 .bf16 :=
  fun i => prod x wc ws (i 0) (i 1)

/-- The second region's block of dequantised codes is the whole array. -/
theorem blk1_0 (c : Dev nD) (t : Fin cfg1.N) (r : Fin 3072) (k : Fin 1920) :
    (iblk1 (V4 m ρ) c 0 t : FVec Ideal S3072x1920 .bf16) (ix2 r k) = deqs (m ((c : Thread nD τ).loc main_arg0)) (ix2 r k) := by
  rw [← arr0_5 m ρ c, ← deq4 m ρ c]
  blk_point [iblk1, idx1 t]

/-- The second region's block of weight codes: the tile's rows. -/
theorem blk1_1 (c : Dev nD) (t : Fin cfg1.N) (q : Fin 512) (k : Fin 1920) :
    (iblk1 (V4 m ρ) c 1 t : FVec Ideal S512x1920 .fp8e4m3) (ix2 q k)
      = (m ((c : Thread nD τ).loc main_arg1) : FVec Ideal SW .fp8e4m3) (ix2 (tcol t q) k) := by
  rw [← codes4 m ρ c]
  unfold tcol
  blk_point [iblk1, idx1 t]

/-- The second region's block of weight scales: the tile's rows. -/
theorem blk1_2 (c : Dev nD) (t : Fin cfg1.N) (q : Fin 512) (b : Fin 60) :
    (iblk1 (V4 m ρ) c 2 t : IVec S512x60 8) (ix2 q b) = (m ((c : Thread nD τ).loc main_arg2) : IVec SS 8) (ix2 (tcol t q) b) := by
  rw [← scales4 m ρ c]
  unfold tcol
  blk_point [iblk1, idx1 t]

/-- The second region's block of the expansion matrix. -/
theorem blk1_3 (c : Dev nD) (t : Fin cfg1.N) (g : Fin 60) (k : Fin 1920) :
    (iblk1 (V4 m ρ) c 3 t : FVec Ideal S60x1920 .bf16) (ix2 g k) = if g = blk k then (1 : EReal) else 0 := by
  rw [← expand4_at m ρ c]
  blk_point [iblk1, idx1 t]

/-- Where the output's block `t` lies in its array. -/
theorem emb1_4 (t : Fin cfg1.N) (r : Fin 3072) (q : Fin 512) :
    ((View.whole main_v21).slice (win1_4.rect t)).emb (ix2 r q) = ix2 r (tcol t q) := by
  unfold tcol
  blk_ext [idx1 t]

/-- A tile's products. -/
theorem tile_prod (X : FVec Ideal SX .bf16) (WC : FVec Ideal SW .fp8e4m3) (WS : IVec SS 8) (t : Fin cfg1.N)
    (xd : FVec Ideal S3072x1920 .bf16) (wc : FVec Ideal S512x1920 .fp8e4m3) (ws : IVec S512x60 8) (p : FVec Ideal S60x1920 .bf16)
    (hx : ∀ (r : Fin 3072) (k : Fin 1920), xd (ix2 r k) = deqs X (ix2 r k))
    (hc : ∀ (q : Fin 512) (k : Fin 1920), wc (ix2 q k) = WC (ix2 (tcol t q) k))
    (hs : ∀ (q : Fin 512) (b : Fin 60), ws (ix2 q b) = WS (ix2 (tcol t q) b))
    (hp : ∀ (g : Fin 60) (k : Fin 1920), p (ix2 g k) = if g = blk k then 1 else 0) (r : Fin 3072) (q : Fin 512) :
    k1_pay1 (F := Ideal) ws p wc xd (ix2 r q) = prods X WC WS (ix2 r (tcol t q)) := by
  rw [dot_at ws p wc xd hp]
  simp only [hx, hc, hs]
  exact sum_scaled X WC WS r (tcol t q)

/-- The second region's output. -/
theorem arr1_4 (c : Dev nD) : (dat1 (V4 m ρ) c).arrAt 4 cfg1.N
    = prods (m ((c : Thread nD τ).loc main_arg0)) (m ((c : Thread nD τ).loc main_arg1)) (m ((c : Thread nD τ).loc main_arg2)) := by
  refine (dat1 (V4 m ρ) c).arrAt_eq_of_covers 4 _ (by decide +kernel) fun t _ y => ?_
  blk_simp
  rw [after1_4]
  frame_out
  idx_vars y
  have hh := tile_prod (m ((c : Thread nD τ).loc main_arg0)) (m ((c : Thread nD τ).loc main_arg1)) (m ((c : Thread nD τ).loc main_arg2)) t
    (iblk1 (V4 m ρ) c 0 t) (iblk1 (V4 m ρ) c 1 t) (iblk1 (V4 m ρ) c 2 t) (iblk1 (V4 m ρ) c 3 t)
    (blk1_0 m ρ c t) (blk1_1 m ρ c t) (blk1_2 m ρ c t) (blk1_3 m ρ c t) y0 y1
  exact hh.trans (congrArg (prods (m ((c : Thread nD τ).loc main_arg0)) (m ((c : Thread nD τ).loc main_arg1)) (m ((c : Thread nD τ).loc main_arg2)))
    (emb1_4 t y0 y1)).symm

end Cert.KernelIdeal.Value

end

end
-- ==== Proof.RefValue.lean ====
/- The reference's stored values at an index: what each of its three stores holds, as the functions of `Spec`. -/
module

public import proofs.«01_k».proof.Proof.Gen.ReferenceIdeal.Frame
public import proofs.«01_k».proof.Proof.Spec
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.ReferenceIdeal.Value

open Cert.ReferenceIdeal Cert.ReferenceIdeal.Gen Cert.Mx

/-- The largest magnitude of a block, read off the reference. -/
theorem amax_at (x : FVec Ideal S3x1024x1920 .bf16) (r : Fin 3072) (b : Fin 60) :
    multiReduction .maximumf [2] S3072x60 (absf (k0_pay3 (F := Ideal) x)) 0xFF800000#32 reduces_S3072x60x32_S3072x60 (.inl rfl) rfl (ix2 r b)
      = amax x r b := by
  pointwise [k0_pay3]
  rfl

/-- The count over the last axis is a fold over its 253 positions. -/
theorem fold_at (v : IVec S3072x60x253 32) (r : Fin 3072) (b : Fin 60) :
    multiReductionI .add [2] S3072x60 v 0#32 reduces_S3072x60x253_S3072x60 rfl (ix2 r b)
      = Finset.univ.fold IntOp.addi (0#32) fun i : Fin 253 => v (ix3 r b i) := by
  pointwise

/-- The comparison with the powers of two, at one block and one power. -/
theorem above_at (v : FVec Ideal S3072x60 .f32) (r : Fin 3072) (b : Fin 60) (k : Fin 253) :
    extui 32 (cmpf .oge (broadcastTo S3072x60x253 (shapeCast S3072x60x1 v shapeCasts_S3072x60_S3072x60x1) broadcasts_S3072x60x1_S3072x60x253)
        (exp2 (sitofp .f32 (subi (iota .tc S3072x60x253 32 [2] iota_S3072x60x253_d2_w32) (broadcast S3072x60x253 126#32))))) natLt_1_32 (ix3 r b k)
      = BitVec.setWidth 32 (BitVec.ofBool (decide (pow (IntOp.subi (BitVec.ofNat 32 k.val) 126#32) ≤ v (ix2 r b)))) := by
  pointwise
  rfl

/-- The choice between zero and the count, at one block. -/
theorem choice_at (A : FVec Ideal S3072x60 .f32) (M : IVec S3072x60 32) (r : Fin 3072) (b : Fin 60) :
    select (ori (cmpf .oeq A (broadcast S3072x60 (Scalar.ofBits (F := Ideal) .f32 0x00000000#32))) (cmpi .eq M (broadcast S3072x60 0#32)))
        (broadcast S3072x60 0#32) (subi M (broadcast S3072x60 126#32)) (ix2 r b)
      = Scalar.select (IntOp.ori (BitVec.ofBool (decide (A (ix2 r b) = 0))) (IntOp.cmpi .eq (M (ix2 r b)) 0#32)) (0#32)
        (IntOp.subi (M (ix2 r b)) 126#32) := by
  pointwise

/-- The scaling of a block's largest magnitude, at one block. -/
theorem scaled_at (A : FVec Ideal S3072x60 .f32) (r : Fin 3072) (b : Fin 60) :
    mulf A (broadcast S3072x60 (Scalar.ofBits (F := Ideal) .f32 0x3B124925#32)) (ix2 r b) = A (ix2 r b) * invMax := by
  pointwise
  rfl

/-- The exponent of a block, read off the reference. -/
theorem ex_at (x : FVec Ideal S3x1024x1920 .bf16) (r : Fin 3072) (b : Fin 60) :
    k0_pay4 (F := Ideal) x (ix2 r b) = ex x r b := by
  have hc : ∀ v : FVec Ideal S3072x60 .f32,
      multiReductionI .add [2] S3072x60 (extui 32 (cmpf .oge (broadcastTo S3072x60x253 (shapeCast S3072x60x1 v shapeCasts_S3072x60_S3072x60x1) broadcasts_S3072x60x1_S3072x60x253)
        (exp2 (sitofp .f32 (subi (iota .tc S3072x60x253 32 [2] iota_S3072x60x253_d2_w32) (broadcast S3072x60x253 126#32))))) natLt_1_32)
        0#32 reduces_S3072x60x253_S3072x60 rfl (ix2 r b) = Mx.count (v (ix2 r b)) := fun v => by
    rw [fold_at]
    unfold Mx.count
    exact congrArg (fun f => Finset.fold IntOp.addi (0#32) f Finset.univ) (funext fun k => above_at v r b k)
  refine (choice_at _ _ r b).trans ?_
  rw [hc, scaled_at, amax_at]
  rfl

/-- The code of a feature, read off the reference. -/
theorem code_at (x : FVec Ideal S3x1024x1920 .bf16) (r : Fin 3072) (k : Fin 1920) :
    k0_pay6 (F := Ideal) x (ix2 r k) = code x r k := by
  have h : k0_pay6 (F := Ideal) x (ix2 r k) = quant (act x r k) (k0_pay4 (F := Ideal) x (ix2 r (blk k))) := by
    pointwise [k0_pay6, k0_pay5, k0_pay3]
    rfl
  rw [h, ex_at]; rfl

/-- The code of a feature of a block, in the reference's blocked shape. -/
theorem code3_at (x : FVec Ideal S3x1024x1920 .bf16) (r : Fin 3072) (b : Fin 60) (i : Fin 32) :
    k0_pay5 (F := Ideal) x (ix3 r b i) = code x r (feat b i) := by
  have h : k0_pay5 (F := Ideal) x (ix3 r b i) = quant (act x r (feat b i)) (k0_pay4 (F := Ideal) x (ix2 r b)) := by
    pointwise [k0_pay5, k0_pay3]
    rfl
  rw [h, ex_at, code, blk_feat]

/-- The scale byte of a block, read off the reference. -/
theorem byte_at (x : FVec Ideal S3x1024x1920 .bf16) (r : Fin 3072) (b : Fin 60) :
    k0_pay1 (k0_pay7 (F := Ideal) x) (ix2 r b) = byte (ex x r b) := by
  have h : k0_pay1 (k0_pay7 (F := Ideal) x) (ix2 r b) = byte (k0_pay4 (F := Ideal) x (ix2 r b)) := by
    pointwise [k0_pay1, k0_pay7]
    rfl
  rw [h, ex_at]

/-- The product, read off the reference. -/
theorem prod_at (x : FVec Ideal S3x1024x1920 .bf16) (wc : FVec Ideal S4608x1920 .fp8e4m3) (ws : IVec S4608x60 8) (r : Fin 3072) (c : Fin 4608) :
    k0_pay2 (F := Ideal) (k0_pay5 x) (k0_pay7 (F := Ideal) x) wc ws (ix2 r c) = prod x wc ws r c := by
  have h : ∀ (q : FVec Ideal S3072x60x32 .fp8e4m3) (e : IVec S3072x60 32), k0_pay2 (F := Ideal) q e wc ws (ix2 r c)
      = ∑ b : Fin 60, (∑ i : Fin 32, q (ix3 r b i) * wc (ix2 c (feat b i)))
          * pow (IntOp.subi (BitVec.setWidth 32 (k0_pay1 e (ix2 r b))) 127#32) * pow (wexp (ws (ix2 c b))) := fun q e => by
    pointwise [k0_pay2]
    rfl
  rw [h]
  refine Finset.sum_congr rfl fun b _ => ?_
  rw [byte_at, ex, decode_byte, ← ex]
  simp only [code3_at]

end Cert.ReferenceIdeal.Value

end

end
-- ==== Proof.RefRun.lean ====
/- The reference's three result arrays after its run, as functions of the argument arrays. -/
module

public import proofs.«01_k».proof.Proof.RefValue

@[expose] public section

set_option maxRecDepth 16384

noncomputable section

open Idealize.ShloMosaic Idealize.ShloMosaic.TcCoe Idealize.SL.Sem
open Idealize.ShloMosaic.Pipeline (Dat)

namespace Cert.ReferenceIdeal.Value

open Cert.ReferenceIdeal Cert.ReferenceIdeal.Gen Cert.Mx

variable (m : (ℓ : Loc nD τ sig) → Buf (Elt Ideal) ℓ)

/-- The index map of every window: the whole array, at the one grid point. -/
theorem idx : ∀ t : Fin cfg0.N, win0_0.index t = ![0, 0, 0] ∧ win0_1.index t = ![0, 0] ∧ win0_2.index t = ![0, 0]
    ∧ win0_3.index t = ![0, 0] ∧ win0_4.index t = ![0, 0] ∧ win0_5.index t = ![0, 0] :=
  (by decide +kernel : ∀ t : Fin grid0.N, _)

/-- The product's array is the reference's last payload over the argument arrays. -/
theorem final3 (c : Dev nD) : (dats m 0 c).arrAt 3 (cfgs 0).N
    = k0_pay2 (F := Ideal) (k0_pay5 (m ((c : Thread nD τ).loc main_arg0))) (k0_pay7 (F := Ideal) (m ((c : Thread nD τ).loc main_arg0)))
        (m ((c : Thread nD τ).loc main_arg1)) (m ((c : Thread nD τ).loc main_arg2)) := by
  refine (dats m 0 c).arrAt_eq_of_after_last 3 t0_0 (by decide +kernel) _ fun j => ?_
  blk_simp
  rw [after0_3]
  unfold_out out0_3
  frame_out
  blk_point [iblk, V, idx t0_0]

/-- The codes' array is the reference's code payload over the activations. -/
theorem final4 (c : Dev nD) : (dats m 0 c).arrAt 4 (cfgs 0).N = k0_pay6 (F := Ideal) (m ((c : Thread nD τ).loc main_arg0)) := by
  refine (dats m 0 c).arrAt_eq_of_after_last 4 t0_0 (by decide +kernel) _ fun j => ?_
  blk_simp
  rw [after0_4]
  frame_out
  blk_point [iblk, V, idx t0_0]

/-- The scale bytes' array is the reference's scale payload over the activations. -/
theorem final5 (c : Dev nD) : (dats m 0 c).arrAt 5 (cfgs 0).N = k0_pay1 (k0_pay7 (F := Ideal) (m ((c : Thread nD τ).loc main_arg0))) := by
  refine (dats m 0 c).arrAt_eq_of_after_last 5 t0_0 (by decide +kernel) _ fun j => ?_
  blk_simp
  rw [after0_5]
  unfold_out out0_5
  frame_out
  blk_point [iblk, V, idx t0_0]

end Cert.ReferenceIdeal.Value

end

end
-- ==== Proof.RefArrays.lean ====
/- The reference's three result arrays, entry by entry, in the words of the shared specification. -/
module

public import proofs.«01_k».proof.Proof.RefRun

@[expose] public section

noncomputable section

open Idealize.ShloMosaic Idealize.ShloMosaic.TcCoe Idealize.SL.Sem

namespace Cert.ReferenceIdeal.Value

open Cert.ReferenceIdeal Cert.ReferenceIdeal.Gen Cert.Mx

variable (m : (ℓ : Loc nD τ sig) → Buf (Elt Ideal) ℓ)

/-- The reference's product. -/
theorem y_eq (c : Dev nD) : (dats m 0 c).arrAt 3 (cfgs 0).N = fun i => prod (m ((c : Thread nD τ).loc main_arg0))
    (m ((c : Thread nD τ).loc main_arg1)) (m ((c : Thread nD τ).loc main_arg2)) (i 0) (i 1) := by
  refine (final3 m c).trans (funext fun i => ?_)
  idx_vars i
  exact prod_at _ _ _ i0 i1

/-- The reference's codes. -/
theorem codes_eq (c : Dev nD) : (dats m 0 c).arrAt 4 (cfgs 0).N = fun i => code (m ((c : Thread nD τ).loc main_arg0)) (i 0) (i 1) := by
  refine (final4 m c).trans (funext fun i => ?_)
  idx_vars i
  exact code_at _ i0 i1

/-- The reference's scale bytes. -/
theorem scales_eq (c : Dev nD) : (dats m 0 c).arrAt 5 (cfgs 0).N = fun i => byte (ex (m ((c : Thread nD τ).loc main_arg0)) (i 0) (i 1)) := by
  refine (final5 m c).trans (funext fun i => ?_)
  idx_vars i
  exact byte_at _ i0 i1

end Cert.ReferenceIdeal.Value

end

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.KernelRun
public import proofs.«01_k».proof.Proof.KernelProd
public import proofs.«01_k».proof.Proof.RefArrays
public import Idealize.ShloMosaic.Lib.Claim
public import Idealize.ShloMosaic.Adequacy
public import Idealize.ShloMosaic.Init

@[expose] public section

noncomputable section

namespace Cert.Proof

open Idealize.ShloMosaic Idealize.SL.Sem Cert.Kernel

/-- Over the extended reals, from equal arguments, the kernel and the reference both run and leave equal products, codes
    and scale bytes. -/
theorem algebraic : Cert.algebraic_KernelIdeal_ReferenceIdeal (hKernelIdeal := Cert.KernelIdeal.Gen.facts)
    (hReferenceIdeal := Cert.ReferenceIdeal.Gen.facts) := by
  pair_intro
  · run_from Cert.KernelIdeal.Value.run m g
  · run_from Cert.ReferenceIdeal.Gen.run_main m' g'
    · refine (Cert.ReferenceIdeal.Value.y_eq m' c).trans (Eq.trans ?_ (Cert.KernelIdeal.Value.arr1_4 m g c).symm)
      rw [(hagree c).1, (hagree c).2.1, (hagree c).2.2]
      rfl
    · refine (Cert.ReferenceIdeal.Value.codes_eq m' c).trans (Eq.trans ?_ (Cert.KernelIdeal.Value.arr0_3 m g c).symm)
      rw [(hagree c).1]
      rfl
    · refine (Cert.ReferenceIdeal.Value.scales_eq m' c).trans (Eq.trans ?_ (Cert.KernelIdeal.Value.arr0_4 m g c).symm)
      rw [(hagree c).1]
      rfl

/-- The three programs run to the end, leave their arguments as they found them and every semaphore at zero; the
    idealization changed nothing; and the two idealized programs compute the same results. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ,
  fun m ρ _ => Cert.ReferenceIdeal.Gen.frame m ρ, trivial, algebraic⟩

end Cert.Proof

end
